-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S800000 : Shape := ⟨1, ![800000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1 : Shape := ⟨2, ![1, 1]⟩
abbrev S100000 : Shape := ⟨1, ![100000]⟩
abbrev S800000x1 : Shape := ⟨2, ![800000, 1]⟩
abbrev S50000 : Shape := ⟨1, ![50000]⟩
abbrev S50000x128 : Shape := ⟨2, ![50000, 128]⟩
abbrev S800000x128 : Shape := ⟨2, ![800000, 128]⟩
abbrev S50000x1 : Shape := ⟨2, ![50000, 1]⟩
abbrev S1000x128 : Shape := ⟨2, ![1000, 128]⟩
abbrev S1000x1 : Shape := ⟨2, ![1000, 1]⟩

abbrev nBuf : Space → Nat
  | .hbm => 107
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S100000x1, .f32⟩
  | .hbm, ⟨22, _⟩ => ⟨S1x1, .f32⟩
  | .hbm, ⟨23, _⟩ => ⟨S100000x1, .f32⟩
  | .hbm, ⟨24, _⟩ => ⟨S100000x1, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S1, .i32⟩
  | .hbm, ⟨43, _⟩ => ⟨S_, .i32⟩
  | .hbm, ⟨44, _⟩ => ⟨S800000x1, .i32⟩
  | .hbm, ⟨45, _⟩ => ⟨S800000x1, .i1⟩
  | .hbm, ⟨46, _⟩ => ⟨S1x1, .i32⟩
  | .hbm, ⟨47, _⟩ => ⟨S800000x1, .i32⟩
  | .hbm, ⟨48, _⟩ => ⟨S800000x1, .i1⟩
  | .hbm, ⟨49, _⟩ => ⟨S800000x1, .i1⟩
  | .hbm, ⟨50, _⟩ => ⟨S_, .i1⟩
  | .hbm, ⟨51, _⟩ => ⟨S800000, .i1⟩
  | .hbm, ⟨52, _⟩ => ⟨S800000, .f32⟩
  | .hbm, ⟨53, _⟩ => ⟨S_, .f32⟩
  | .hbm, ⟨54, _⟩ => ⟨S800000, .f32⟩
  | .hbm, ⟨55, _⟩ => ⟨S800000, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000x128, .f32⟩
  | .hbm, ⟨70, _⟩ => ⟨S800000x1, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S1, .i32⟩
  | .hbm, ⟨80, _⟩ => ⟨S_, .i32⟩
  | .hbm, ⟨81, _⟩ => ⟨S800000x1, .i32⟩
  | .hbm, ⟨82, _⟩ => ⟨S800000x1, .i1⟩
  | .hbm, ⟨83, _⟩ => ⟨S1x1, .i32⟩
  | .hbm, ⟨84, _⟩ => ⟨S800000x1, .i32⟩
  | .hbm, ⟨85, _⟩ => ⟨S800000x1, .i1⟩
  | .hbm, ⟨86, _⟩ => ⟨S800000x1, .i1⟩
  | .hbm, ⟨87, _⟩ => ⟨S_, .i1⟩
  | .hbm, ⟨88, _⟩ => ⟨S800000, .i1⟩
  | .hbm, ⟨89, _⟩ => ⟨S800000x128, .f32⟩
  | .hbm, ⟨90, _⟩ => ⟨S800000x128, .i1⟩
  | .hbm, ⟨91, _⟩ => ⟨S_, .f32⟩
  | .hbm, ⟨92, _⟩ => ⟨S800000x128, .f32⟩
  | .hbm, ⟨93, _⟩ => ⟨S800000x128, .f32⟩
  | .hbm, ⟨94, _⟩ => ⟨S800000x128, .f32⟩
  | .hbm, ⟨95, _⟩ => ⟨S800000x128, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S50000x128, .f32⟩
  | .hbm, ⟨105, _⟩ => ⟨S50000x1, .f32⟩
  | .hbm, ⟨106, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_c : Ref sig .tc := ⟨.hbm, 59, rfl⟩
abbrev main_v25 : Ref sig .tc := ⟨.hbm, 60, rfl⟩
abbrev main_v26 : Ref sig .tc := ⟨.hbm, 61, rfl⟩
abbrev main_c_4 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_5 : Ref sig .tc := ⟨.hbm, 68, rfl⟩
abbrev main_v32 : Ref sig .tc := ⟨.hbm, 69, rfl⟩
abbrev main_v33 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_cst : Ref sig .tc := ⟨.hbm, 91, rfl⟩
abbrev main_call1_v15 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_c_6 : Ref sig .tc := ⟨.hbm, 96, rfl⟩
abbrev main_v37 : Ref sig .tc := ⟨.hbm, 97, rfl⟩
abbrev main_v38 : Ref sig .tc := ⟨.hbm, 98, rfl⟩
abbrev main_c_7 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S100000x128 : Shape := ⟨2, ![100000, 128]⟩
abbrev S800000 : Shape := ⟨1, ![800000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1 : Shape := ⟨2, ![1, 1]⟩
abbrev S100000 : Shape := ⟨1, ![100000]⟩
abbrev S800000x1 : Shape := ⟨2, ![800000, 1]⟩
abbrev S50000 : Shape := ⟨1, ![50000]⟩
abbrev S50000x128 : Shape := ⟨2, ![50000, 128]⟩
abbrev S800000x128 : Shape := ⟨2, ![800000, 128]⟩
abbrev S50000x1 : Shape := ⟨2, ![50000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S100000x1, .f32⟩
  | .hbm, ⟨22, _⟩ => ⟨S1x1, .f32⟩
  | .hbm, ⟨23, _⟩ => ⟨S100000x1, .f32⟩
  | .hbm, ⟨24, _⟩ => ⟨S100000x1, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S1, .i32⟩
  | .hbm, ⟨43, _⟩ => ⟨S_, .i32⟩
  | .hbm, ⟨44, _⟩ => ⟨S800000x1, .i32⟩
  | .hbm, ⟨45, _⟩ => ⟨S800000x1, .i1⟩
  | .hbm, ⟨46, _⟩ => ⟨S1x1, .i32⟩
  | .hbm, ⟨47, _⟩ => ⟨S800000x1, .i32⟩
  | .hbm, ⟨48, _⟩ => ⟨S800000x1, .i1⟩
  | .hbm, ⟨49, _⟩ => ⟨S800000x1, .i1⟩
  | .hbm, ⟨50, _⟩ => ⟨S_, .i1⟩
  | .hbm, ⟨51, _⟩ => ⟨S800000, .i1⟩
  | .hbm, ⟨52, _⟩ => ⟨S800000, .f32⟩
  | .hbm, ⟨53, _⟩ => ⟨S_, .f32⟩
  | .hbm, ⟨54, _⟩ => ⟨S800000, .f32⟩
  | .hbm, ⟨55, _⟩ => ⟨S800000, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000x128, .f32⟩
  | .hbm, ⟨70, _⟩ => ⟨S800000x1, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S1, .i32⟩
  | .hbm, ⟨80, _⟩ => ⟨S_, .i32⟩
  | .hbm, ⟨81, _⟩ => ⟨S800000x1, .i32⟩
  | .hbm, ⟨82, _⟩ => ⟨S800000x1, .i1⟩
  | .hbm, ⟨83, _⟩ => ⟨S1x1, .i32⟩
  | .hbm, ⟨84, _⟩ => ⟨S800000x1, .i32⟩
  | .hbm, ⟨85, _⟩ => ⟨S800000x1, .i1⟩
  | .hbm, ⟨86, _⟩ => ⟨S800000x1, .i1⟩
  | .hbm, ⟨87, _⟩ => ⟨S_, .i1⟩
  | .hbm, ⟨88, _⟩ => ⟨S800000, .i1⟩
  | .hbm, ⟨89, _⟩ => ⟨S800000x128, .f32⟩
  | .hbm, ⟨90, _⟩ => ⟨S800000x128, .i1⟩
  | .hbm, ⟨91, _⟩ => ⟨S_, .f32⟩
  | .hbm, ⟨92, _⟩ => ⟨S800000x128, .f32⟩
  | .hbm, ⟨93, _⟩ => ⟨S800000x128, .f32⟩
  | .hbm, ⟨94, _⟩ => ⟨S800000x128, .f32⟩
  | .hbm, ⟨95, _⟩ => ⟨S800000x128, .f32⟩
  | .hbm, ⟨96, _⟩ => ⟨S_, .i32⟩
  | .hbm, ⟨97, _⟩ => ⟨S800000, .i32⟩
  | .hbm, ⟨98, _⟩ => ⟨S800000, .i1⟩
  | .hbm, ⟨99, _⟩ => ⟨S_, .i32⟩
  | .hbm, ⟨100, _⟩ => ⟨S800000, .i32⟩
  | .hbm, ⟨101, _⟩ => ⟨S800000, .i32⟩
  | .hbm, ⟨102, _⟩ => ⟨S800000, .i32⟩
  | .hbm, ⟨103, _⟩ => ⟨S800000x1, .i32⟩
  | .hbm, ⟨104, _⟩ => ⟨S50000x128, .f32⟩
  | .hbm, ⟨105, _⟩ => ⟨S_, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x128, .f32⟩
  | .hbm, ⟨111, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_c : Ref sig .tc := ⟨.hbm, 59, rfl⟩
abbrev main_v25 : Ref sig .tc := ⟨.hbm, 60, rfl⟩
abbrev main_v26 : Ref sig .tc := ⟨.hbm, 61, rfl⟩
abbrev main_c_4 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_5 : Ref sig .tc := ⟨.hbm, 68, rfl⟩
abbrev main_v32 : Ref sig .tc := ⟨.hbm, 69, rfl⟩
abbrev main_v33 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_cst : Ref sig .tc := ⟨.hbm, 91, rfl⟩
abbrev main_call1_v15 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_c_6 : Ref sig .tc := ⟨.hbm, 96, rfl⟩
abbrev main_v37 : Ref sig .tc := ⟨.hbm, 97, rfl⟩
abbrev main_v38 : Ref sig .tc := ⟨.hbm, 98, rfl⟩
abbrev main_c_7 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_8 : Ref sig .tc := ⟨.hbm, 105, rfl⟩
abbrev main_call2_v0 : Ref sig .tc := ⟨.hbm, 106, rfl⟩
abbrev main_call2_v1 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩

abbrev nD : Nat := 1
abbrev τ : Topo := Topo.v7x

variable {F : FTy → Type} [FloatOps F]
-- ==== Proof.Host.lean ====
/-
  What the host operations before the pallas_call leave in its two operands, as functions of @main's arguments, in the
  problem's own words: the gates, the gated values of the sparse matrix, the row sums `mass`, and the weighted sums `num`.
-/
module

public import proofs.«01_k».proof.Proof.Gen.KernelIdeal.Frame
public import Idealize.ShloMosaic.Lib.StableHlo.RunRead

@[expose] public section

noncomputable section

namespace Cert.Pool

open Cert.KernelIdeal Cert.KernelIdeal.Gen Idealize.ShloMosaic Idealize.ShloMosaic.TcCoe Idealize.SL.Sem

variable {F : FTy → Type} [FloatOps F]

/-- The gate's first layer, `x @ W1 + b1`, on every fine node. -/
def hidden (x : FVec F S100000x128 .f32) (W1 : FVec F S128x64 .f32) (b1 : FVec F S64 .f32) : FVec F S100000x64 .f32 :=
  addf (Host.dotGeneral dot_S100000x128_S128x64_S100000x64_1_0_0_1_n_n none x W1)
    (broadcastInDim S100000x64 ![0, 1] bcast_S1x64_S100000x64_0_1 (broadcastInDim S1x64 ![1] bcast_S64_S1x64_1 b1))

/-- The exact gelu of a hidden array: `0.5 · h · erfc(−h · √0.5)`. -/
def gelu (h : FVec F S100000x64 .f32) : FVec F S100000x64 .f32 :=
  mulf (mulf (broadcastInDim S100000x64 ![] bcast_S_S100000x64 (constant S_ .f32 0x3F000000#32)) h)
    (Host.erfc (mulf (Host.negf h) (broadcastInDim S100000x64 ![] bcast_S_S100000x64 (constant S_ .f32 0x3F3504F3#32))))

/-- The gate's second layer with its unit axis dropped: `(h @ W2 + b2).squeeze(-1)`. -/
def logits (h : FVec F S100000x64 .f32) (W2 : FVec F S64x1 .f32) (b2 : FVec F S1 .f32) : FVec F S100000 .f32 :=
  shapeCast S100000 (addf (Host.dotGeneral dot_S100000x64_S64x1_S100000x1_1_0_0_1_n_n none h W2)
    (broadcastInDim S100000x1 ![0, 1] bcast_S1x1_S100000x1_0_1 (broadcastInDim S1x1 ![1] bcast_S1_S1x1_1 b2)))
    shapeCasts_S100000x1_S100000

/-- The sigmoid of a vector over the fine nodes: `1 / (1 + exp(−z))`. -/
def sigmoid (z : FVec F S100000 .f32) : FVec F S100000 .f32 :=
  Host.divf (broadcastInDim S100000 ![] bcast_S_S100000 (constant S_ .f32 0x3F800000#32))
    (addf (broadcastInDim S100000 ![] bcast_S_S100000 (constant S_ .f32 0x3F800000#32)) (Host.exp (Host.negf z)))

/-- Every fine node's gate. -/
def gates (x : FVec F S100000x128 .f32) (W1 : FVec F S128x64 .f32) (b1 : FVec F S64 .f32) (W2 : FVec F S64x1 .f32)
    (b2 : FVec F S1 .f32) : FVec F S100000 .f32 :=
  sigmoid (logits (gelu (hidden x W1 b1)) W2 b2)

/-- An index list with jnp's reading of negative indices into an axis of extent `n`, as a column: `i < 0 ? i + n : i`. -/
def wrapped (n : BitVec 32) (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 n))) i)

/-- Which entries of a column of indices name one of the 100000 fine nodes. -/
def named (i : IVec S800000x1 32) : IVec S800000 1 :=
  Host.reduce IntOp.andi
    (andi (cmpi .sge i (broadcastInDim S800000x1 ![] bcast_S_S800000x1 (constantI S_ 32 0#32)))
      (cmpi .sle i (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- `jnp.take` of one number per fine node: the gathered entries, and the fill where an index names no node. -/
def takeEntries (g : FVec F S100000 .f32) (cols : IVec S800000 32) : FVec F S800000 .f32 :=
  select (named (wrapped 100000#32 cols))
    (Host.gather gather_S100000_S800000x1_S800000_n_0_n_n_0_1_1 g (wrapped 100000#32 cols))
    (broadcastInDim S800000 ![] bcast_S_S800000 (constant S_ .f32 0x7FC00000#32))

/-- `jnp.take` of one row per fine node: the gathered rows, and the fill where an index names no node. -/
def takeRows (x : FVec F S100000x128 .f32) (cols : IVec S800000 32) : FVec F S800000x128 .f32 :=
  select (broadcastInDim S800000x128 ![0] bcast_S800000_S800000x128_0 (named (wrapped 100000#32 cols)))
    (Host.gather gather_S100000x128_S800000x1_S800000x128_1_0_n_n_0_1_1128 x (wrapped 100000#32 cols))
    (broadcastInDim S800000x128 ![] bcast_S_S800000x128 (constant S_ .f32 0x7FC00000#32))

/-- The gated values: each stored value times the gate of its fine node. -/
def gated (w : FVec F S800000 .f32) (g : FVec F S100000 .f32) (cols : IVec S800000 32) : FVec F S800000 .f32 :=
  mulf w (takeEntries g cols)

/-- The row sums of the gated matrix: every value added into its coarse node. -/
def mass (v : FVec F S800000 .f32) (rows : IVec S800000 32) : FVec F S50000 .f32 :=
  Host.scatterAdd scatter_S50000_S800000x1_S800000_n_0_0_1
    (broadcastInDim S50000 ![] bcast_S_S50000 (constant S_ .f32 0x00000000#32)) (wrapped 50000#32 rows) v

/-- The gated matrix times `x`: every value times its fine node's row, added into its coarse node's row. -/
def num (v : FVec F S800000 .f32) (x : FVec F S100000x128 .f32) (rows cols : IVec S800000 32) : FVec F S50000x128 .f32 :=
  Host.scatterAdd scatter_S50000x128_S800000x1_S800000x128_1_0_0_1
    (broadcastInDim S50000x128 ![] bcast_S_S50000x128 (constant S_ .f32 0x00000000#32)) (wrapped 50000#32 rows)
    (mulf (broadcastInDim S800000x128 ![0, 1] bcast_S800000x1_S800000x128_0_1
      (broadcastInDim S800000x1 ![0] bcast_S800000_S800000x1_0 v)) (takeRows x cols))

variable (m : (ℓ : Loc nD τ sig) → Buf (Elt F) ℓ)

/-- The gated values of device `c`'s arguments. -/
def argGated (c : Dev nD) : FVec F S800000 .f32 :=
  gated (m ((c.tc : Thread nD τ).loc main_arg3))
    (gates (m ((c.tc : Thread nD τ).loc main_arg0)) (m ((c.tc : Thread nD τ).loc main_arg4)) (m ((c.tc : Thread nD τ).loc main_arg5))
      (m ((c.tc : Thread nD τ).loc main_arg6)) (m ((c.tc : Thread nD τ).loc main_arg7)))
    (m ((c.tc : Thread nD τ).loc main_arg2))

/-- The weighted sums of device `c`'s arguments. -/
def argNum (c : Dev nD) : FVec F S50000x128 .f32 :=
  num (argGated m c) (m ((c.tc : Thread nD τ).loc main_arg0)) (m ((c.tc : Thread nD τ).loc main_arg1)) (m ((c.tc : Thread nD τ).loc main_arg2))

/-- The row sums of device `c`'s arguments. -/
def argMass (c : Dev nD) : FVec F S50000 .f32 :=
  mass (argGated m c) (m ((c.tc : Thread nD τ).loc main_arg1))

set_option maxRecDepth 8192 in
set_option maxHeartbeats 4000000 in
/-- The pallas_call finds the weighted sums in its first operand. -/
theorem entry_num (c : Dev nD) : V m c main_v43 = argNum m c := by
  simp only [V, hostOps0, hostOps0_1, hostOps0_2, hostOps0_3, hostOps0_4, StableHlo.TRef.binary, StableHlo.TRef.nullary,
    StableHlo.TRef.ternary, StableHlo.TRef.unary, StableHlo.TRef.toBuf, StableHlo.TRef.ofBuf, cast_eq, List.flatten_cons,
    List.flatten_nil, List.append_nil, List.cons_append, List.nil_append]
  after_reads_simp
  rfl

set_option maxRecDepth 8192 in
set_option maxHeartbeats 4000000 in
/-- The pallas_call finds the row sums, as a column, in its second operand. -/
theorem entry_mass (c : Dev nD) :
    V m c main_v44 = broadcastInDim S50000x1 ![0] bcast_S50000_S50000x1_0 (argMass m c) := by
  simp only [V, hostOps0, hostOps0_1, hostOps0_2, hostOps0_3, hostOps0_4, StableHlo.TRef.binary, StableHlo.TRef.nullary,
    StableHlo.TRef.ternary, StableHlo.TRef.unary, StableHlo.TRef.toBuf, StableHlo.TRef.ofBuf, cast_eq, List.flatten_cons,
    List.flatten_nil, List.append_nil, List.cons_append, List.nil_append]
  after_reads_simp
  rfl

end Cert.Pool

end
-- ==== Proof.Blocks.lean ====
/-
  The result array after the pallas_call: fifty blocks of a thousand rows, block `t` written by grid point `t`, together one
  guarded quotient of the two operands the call was given.
-/
module

public import proofs.«01_k».proof.Proof.Gen.KernelIdeal.Value
public import proofs.«01_k».proof.Proof.Host

@[expose] public section

noncomputable section

namespace Cert.Pool

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The entry of a column that divides row `i 0`. -/
abbrev rowOf (i : S50000x128.Idx) : S50000x1.Idx := fun a => match a with
  | ⟨0, _⟩ => i 0
  | ⟨1, _⟩ => (0 : Fin 1)

/-- Every entry of `n` divided by its row's entry of the column `d`, the divisor kept at least `1e-8`. -/
def guardedQuot (n : FVec F S50000x128 .f32) (d : FVec F S50000x1 .f32) : FVec F S50000x128 .f32 := fun i =>
  FloatOps.divf (n i) (FloatOps.maximumf (Scalar.ofBits .f32 0x322BCC77#32) (d (rowOf i)))

/-- The two zero offsets of a whole-block access, as a function. -/
theorem hz : (![0, 0] : Fin 2 → Nat) = fun _ => 0 := funext fun a => by fin_cases a <;> rfl

/-- Point `t`'s blocks are the `t`-th along the rows and the only ones along the columns, in all three windows. -/
theorem index_eq : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

/-- The body's result on block `t` of two arrays, cut to the block, is block `t` of their guarded quotient. -/
theorem body_eq (t : Fin cfg0.N) (A0 : FVec F S50000x128 .f32) (A1 : FVec F S50000x1 .f32) :
    (cfg0.win 2).cut (grid0.coords t)
        (out0_2 (((cfg0.win 0).blk t).view.read (Elt F) A0) (((cfg0.win 1).blk t).view.read (Elt F) A1))
      = ((cfg0.win 2).blk t).view.read (Elt F) (guardedQuot A0 A1) := by
  unfold out0_2
  rw [View.ld_unit_zero hz, View.ld_unit_zero hz]
  obtain ⟨e0, e1, e2⟩ := index_eq t
  funext j
  refine (Value.canon2_eq (((cfg0.win 0).blk t).view.read (Elt F) A0) (((cfg0.win 1).blk t).view.read (Elt F) A1) j).trans ?_
  show FloatOps.divf (A0 (((cfg0.win 0).blk t).view.emb (Value.ix2_0 j)))
      (FloatOps.maximumf (Scalar.ofBits .f32 0x322BCC77#32) (A1 (((cfg0.win 1).blk t).view.emb (Value.ix2_1 j))))
    = FloatOps.divf (A0 (((cfg0.win 2).blk t).view.emb j))
      (FloatOps.maximumf (Scalar.ofBits .f32 0x322BCC77#32) (A1 (rowOf (((cfg0.win 2).blk t).view.emb j))))
  have h0 : ((cfg0.win 0).blk t).view.emb (Value.ix2_0 j) = ((cfg0.win 2).blk t).view.emb j := by
    funext a; apply Fin.ext
    match a with
    | ⟨0, _⟩ => show win0_0.index t 0 * 1000 + 1 * (j 0).val = win0_2.index t 0 * 1000 + 1 * (j 0).val; rw [e0, e2]
    | ⟨1, _⟩ => show win0_0.index t 1 * 128 + 1 * (j 1).val = win0_2.index t 1 * 128 + 1 * (j 1).val; rw [e0, e2]
  have h1 : ((cfg0.win 1).blk t).view.emb (Value.ix2_1 j) = rowOf (((cfg0.win 2).blk t).view.emb j) := by
    funext a; apply Fin.ext
    match a with
    | ⟨0, _⟩ => show win0_1.index t 0 * 1000 + 1 * (j 0).val = win0_2.index t 0 * 1000 + 1 * (j 0).val; rw [e1, e2]
    | ⟨1, _⟩ => show win0_1.index t 1 * 1 + 1 * 0 = 0; rw [e1]; rfl
  rw [h0, h1]

/-- What point `t` writes back is block `t` of the guarded quotient of the call's two operands. -/
theorem flushed_eq (c : Dev nD) (t : Fin cfg0.N) :
    (dats m 0 c).flushed 2 t = ((cfg0.win 2).blk t).view.read (Elt F) (guardedQuot (V m c main_v43) (V m c main_v44)) := by
  rw [Value.flushed2]
  exact body_eq t (V m c main_v43) (V m c main_v44)

/-- Every index of the result array lies in the block of its row's thousand. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 50 := N_0
  let t : Fin cfg0.N := ⟨(i 0).val / 1000, by omega⟩
  have ht : t.val = (i 0).val / 1000 := rfl
  refine ⟨t, flush0_2 t, ?_⟩
  show i ∈ ((View.whole main_v45).slice (win0_2.rect t)).set
  rw [View.set_slice_whole, Rect.mem_set_unit]
  have e2 := (index_eq t).2.2
  intro a
  match a with
  | ⟨0, _⟩ =>
    show win0_2.index t 0 * 1000 ≤ (i 0).val ∧ (i 0).val < win0_2.index t 0 * 1000 + 1000
    rw [e2]
    show t.val * 1000 ≤ (i 0).val ∧ (i 0).val < t.val * 1000 + 1000
    omega
  | ⟨1, _⟩ =>
    show win0_2.index t 1 * 128 ≤ (i 1).val ∧ (i 1).val < win0_2.index t 1 * 128 + 128
    rw [e2]
    show 0 * 128 ≤ (i 1).val ∧ (i 1).val < 0 * 128 + 128
    omega

/-- The result array after the last grid point is the guarded quotient of the call's two operands. -/
theorem final (c : Dev nD) :
    (dats m 0 c).arrAt 2 cfg0.N = guardedQuot (V m c main_v43) (V m c main_v44) :=
  (dats m 0 c).arrAt_eq_of_cover 2 _ (fun t _ => flushed_eq m c t) cover

/-- The pooled features of device `c`'s arguments: the weighted sums over the guarded row sums. -/
def pooled (c : Dev nD) : FVec F S50000x128 .f32 :=
  guardedQuot (argNum m c) (broadcastInDim S50000x1 ![0] bcast_S50000_S50000x1_0 (argMass m c))

/-- Every execution of the kernel's program ends with the result at the pooled features of its arguments, the arguments
    unchanged. -/
theorem run : θ_run defs (onTc (τ := τ) (main (F := F))) ⟨m, fun _ => 0, ρ⟩ fun r => ∀ c : Dev nD,
      r.2.mem ((c : Thread nD τ).loc main_v45) = pooled m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).1.trans (final m c)).trans (by rw [entry_num, entry_mass]; rfl), (h c).2⟩)
    (Value.run_blocks m ρ)

end Cert.Pool

end
-- ==== Proof.Agree.lean ====
/-
  The reference's result: the same weighted sums and row sums, divided by the host instead of block by block in the kernel.
  At the ideal instance the two quotients are one function.
-/
module

public import proofs.«01_k».proof.Proof.Blocks
public import proofs.«01_k».proof.Proof.Gen.ReferenceIdeal.Run
public import proofs.«01_k».proof.Defs
public import Idealize.ShloMosaic.Lib.Quiescent

@[expose] public section

noncomputable section

namespace Cert.Pool

open Cert.KernelIdeal Cert.KernelIdeal.Gen Idealize.ShloMosaic Idealize.ShloMosaic.TcCoe Idealize.SL.Sem

variable {F : FTy → Type} [FloatOps F]

/-- The host's guarded quotient: `n / maximum(d, 1e-8)[:, None]`. -/
def hostQuot (n : FVec F S50000x128 .f32) (d : FVec F S50000 .f32) : FVec F S50000x128 .f32 :=
  Host.divf n (broadcastInDim S50000x128 ![0, 1] Cert.ReferenceIdeal.Facts₀.bcast_S50000x1_S50000x128_0_1
    (broadcastInDim S50000x1 ![0] bcast_S50000_S50000x1_0
      (maximumf (broadcastInDim S50000 ![] bcast_S_S50000 (constant S_ .f32 0x322BCC77#32)) d)))

set_option maxRecDepth 8192 in
/-- The reference's result is the host's guarded quotient of its own arguments' weighted sums by their row sums. -/
theorem reference_eq (m' : (ℓ : Loc Cert.ReferenceIdeal.nD Cert.ReferenceIdeal.τ Cert.ReferenceIdeal.sig) → Buf (Elt F) ℓ)
    (c : Dev Cert.ReferenceIdeal.nD) (x : FVec F S100000x128 .f32) (rows cols : IVec S800000 32) (w : FVec F S800000 .f32)
    (W1 : FVec F S128x64 .f32) (b1 : FVec F S64 .f32) (W2 : FVec F S64x1 .f32) (b2 : FVec F S1 .f32)
    (h0 : m' ((c.tc : Thread Cert.ReferenceIdeal.nD Cert.ReferenceIdeal.τ).loc Cert.ReferenceIdeal.main_arg0) = x)
    (h1 : m' ((c.tc : Thread Cert.ReferenceIdeal.nD Cert.ReferenceIdeal.τ).loc Cert.ReferenceIdeal.main_arg1) = rows)
    (h2 : m' ((c.tc : Thread Cert.ReferenceIdeal.nD Cert.ReferenceIdeal.τ).loc Cert.ReferenceIdeal.main_arg2) = cols)
    (h3 : m' ((c.tc : Thread Cert.ReferenceIdeal.nD Cert.ReferenceIdeal.τ).loc Cert.ReferenceIdeal.main_arg3) = w)
    (h4 : m' ((c.tc : Thread Cert.ReferenceIdeal.nD Cert.ReferenceIdeal.τ).loc Cert.ReferenceIdeal.main_arg4) = W1)
    (h5 : m' ((c.tc : Thread Cert.ReferenceIdeal.nD Cert.ReferenceIdeal.τ).loc Cert.ReferenceIdeal.main_arg5) = b1)
    (h6 : m' ((c.tc : Thread Cert.ReferenceIdeal.nD Cert.ReferenceIdeal.τ).loc Cert.ReferenceIdeal.main_arg6) = W2)
    (h7 : m' ((c.tc : Thread Cert.ReferenceIdeal.nD Cert.ReferenceIdeal.τ).loc Cert.ReferenceIdeal.main_arg7) = b2) :
    Cert.ReferenceIdeal.Value.res_out0 m' c
      = hostQuot (num (gated w (gates x W1 b1 W2 b2) cols) x rows cols) (mass (gated w (gates x W1 b1 W2 b2) cols) rows) := by
  subst h0 h1 h2 h3 h4 h5 h6 h7
  rfl

/-- At the ideal instance the host's guarded quotient by a vector is the kernel's by that vector as a column. -/
theorem hostQuot_eq (n : FVec Ideal S50000x128 .f32) (d : FVec Ideal S50000 .f32) :
    hostQuot n d = guardedQuot n (broadcastInDim S50000x1 ![0] bcast_S50000_S50000x1_0 d) := by
  funext i
  let k : S50000.Idx := fun a => match a with | ⟨0, _⟩ => i 0
  have hk : ∀ (v : FVec Ideal S50000 .f32), broadcastInDim S50000x1 ![0] bcast_S50000_S50000x1_0 v (rowOf i) = v k := fun v =>
    broadcastInDim_apply ![0] bcast_S50000_S50000x1_0 v (rowOf i) k fun a => match a with | ⟨0, _⟩ => rfl
  have hr : ∀ (v : FVec Ideal S50000x1 .f32),
      broadcastInDim S50000x128 ![0, 1] Cert.ReferenceIdeal.Facts₀.bcast_S50000x1_S50000x128_0_1 v i = v (rowOf i) := fun v =>
    broadcastInDim_apply ![0, 1] Cert.ReferenceIdeal.Facts₀.bcast_S50000x1_S50000x128_0_1 v i (rowOf i) fun a => match a with
      | ⟨0, _⟩ => rfl
      | ⟨1, _⟩ => rfl
  show FloatOps.hostDivf (n i) _ = FloatOps.divf (n i) (FloatOps.maximumf (Scalar.ofBits .f32 0x322BCC77#32) _)
  rw [hr, hk, hk, Ideal.divf_def, Ideal.hostDivf_def]
  rfl

/-- The reference runs to the end with its arguments unchanged and no semaphore left raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel's program and the reference end with equal results at the ideal instance. -/
theorem algebraic : Cert.algebraic_KernelIdeal_ReferenceIdeal := by
  intro m ρ m' ρ' _ hagree
  refine ⟨_, run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact (reference_eq m' c _ _ _ _ _ _ _ _ h0 h1 h2 h3 h4 h5 h6 h7).trans (hostQuot_eq _ _)

end Cert.Pool

end
-- ==== Proof.lean ====
/-
  The certificate of the gated pooling kernel: the two frames of the kernel's program, printed and at the ideal instance, are
  the generated ones; the reference's frame and the value claim are `Proof/Agree.lean`'s, over the closed form of the result
  array in `Proof/Blocks.lean` and of its two operands in `Proof/Host.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Agree
public import Idealize.ShloMosaic.Adequacy
public import Idealize.ShloMosaic.Init

@[expose] public section

noncomputable section

namespace Cert.Proof

/-- The kernel's program runs to the end with its arguments unchanged and no semaphore left raised, at the machine's floats and
    at the ideal ones; so does the reference; and at the ideal instance the two results are equal. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Pool.frame_reference, trivial,
    Cert.Pool.algebraic⟩

end Cert.Proof

end
